-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1024x4096 : Shape := ⟨2, ![1024, 4096]⟩
abbrev S4096x512 : Shape := ⟨2, ![4096, 512]⟩
abbrev S512 : Shape := ⟨1, ![512]⟩
abbrev S256x512 : Shape := ⟨2, ![256, 512]⟩
abbrev S_ : Shape := ⟨0, ![]⟩

class Facts : Prop where
  bcast_S_S1024x4096 : S_.BroadcastsInDim S1024x4096 (![] : Fin 0 → Fin S1024x4096.rank)
  reducesTo_S1024x4096_S_d0_1 : S1024x4096.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S1024x4096 .f32) (main_arg1 : FVec F S4096x512 .f32) (main_arg2 : FVec F S512 .f32) (main_arg3 : FVec F S256x512 .f32) : IVec S_ 1 :=
  let main_v0 : FVec F S1024x4096 .f32 := Host.absf main_arg0
  let main_cst : FVec F S_ .f32 := constant S_ .f32 0x7F800000#32
  let main_v1 : FVec F S1024x4096 .f32 := broadcastInDim S1024x4096 ![] bcast_S_S1024x4096 main_cst
  let main_v2 : IVec S1024x4096 1 := cmpf .olt main_v0 main_v1
  let main_c : IVec S_ 1 := constantI S_ 1 1#1
  let main_v3 : IVec S_ 1 := (fun x v => Host.reduce IntOp.andi x v reducesTo_S1024x4096_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S1024x4096 : Shape := ⟨2, ![1024, 4096]⟩
abbrev S4096x512 : Shape := ⟨2, ![4096, 512]⟩
abbrev S512 : Shape := ⟨1, ![512]⟩
abbrev S256x512 : Shape := ⟨2, ![256, 512]⟩
abbrev S1x512 : Shape := ⟨2, ![1, 512]⟩
abbrev S1024x256 : Shape := ⟨2, ![1024, 256]⟩
abbrev S512x2048 : Shape := ⟨2, ![512, 2048]⟩
abbrev S2048x512 : Shape := ⟨2, ![2048, 512]⟩
abbrev S512x256 : Shape := ⟨2, ![512, 256]⟩
abbrev S512x512 : Shape := ⟨2, ![512, 512]⟩

abbrev nBuf : Space → Nat
  | .hbm => 6
  | .vmem => 10
  | .smem => 0
  | _ => 0

abbrev bufTy : (tb : Table) → Fin (tcTables nBuf tb) → BufTy
  | .hbm, ⟨0, _⟩ => ⟨S1024x4096, .f32⟩
  | .hbm, ⟨1, _⟩ => ⟨S4096x512, .f32⟩
  | .hbm, ⟨2, _⟩ => ⟨S512, .f32⟩
  | .hbm, ⟨3, _⟩ => ⟨S256x512, .f32⟩
  | .hbm, ⟨4, _⟩ => ⟨S1x512, .f32⟩
  | .hbm, ⟨5, _⟩ => ⟨S1024x256, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S2048x512, .f32⟩
  | .local _ .vmem, ⟨5, _⟩ => ⟨S2048x512, .f32⟩
  | .local _ .vmem, ⟨6, _⟩ => ⟨S1x512, .f32⟩
  | .local _ .vmem, ⟨7, _⟩ => ⟨S256x512, .f32⟩
  | .local _ .vmem, ⟨8, _⟩ => ⟨S512x256, .f32⟩
  | .local _ .vmem, ⟨9, _⟩ => ⟨S512x256, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S1024x4096 : Shape := ⟨2, ![1024, 4096]⟩
abbrev S4096x512 : Shape := ⟨2, ![4096, 512]⟩
abbrev S512 : Shape := ⟨1, ![512]⟩
abbrev S256x512 : Shape := ⟨2, ![256, 512]⟩
abbrev S2x1 : Shape := ⟨2, ![2, 1]⟩
abbrev S1024x512 : Shape := ⟨2, ![1024, 512]⟩
abbrev S1x512 : Shape := ⟨2, ![1, 512]⟩
abbrev S1024x512x1 : Shape := ⟨3, ![1024, 512, 1]⟩
abbrev S1024x512x1x1 : Shape := ⟨4, ![1024, 512, 1, 1]⟩
abbrev S1x1x2x1 : Shape := ⟨4, ![1, 1, 2, 1]⟩
abbrev S1024x512x2x1 : Shape := ⟨4, ![1024, 512, 2, 1]⟩
abbrev S_ : Shape := ⟨0, ![]⟩
abbrev S1024x512x2 : Shape := ⟨3, ![1024, 512, 2]⟩
abbrev S1 : Shape := ⟨1, ![1]⟩
abbrev S1x1x1 : Shape := ⟨3, ![1, 1, 1]⟩
abbrev S1024x1x512 : Shape := ⟨3, ![1024, 1, 512]⟩
abbrev S1x256x512 : Shape := ⟨3, ![1, 256, 512]⟩
abbrev S1024x256x512 : Shape := ⟨3, ![1024, 256, 512]⟩
abbrev S1024x256 : Shape := ⟨2, ![1024, 256]⟩

abbrev nBuf : Space → Nat
  | .hbm => 58
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S4096x512, .f32⟩
  | .hbm, ⟨2, _⟩ => ⟨S512, .f32⟩
  | .hbm, ⟨3, _⟩ => ⟨S256x512, .f32⟩
  | .hbm, ⟨4, _⟩ => ⟨S2x1, .f32⟩
  | .hbm, ⟨5, _⟩ => ⟨S1024x512, .f32⟩
  | .hbm, ⟨6, _⟩ => ⟨S1x512, .f32⟩
  | .hbm, ⟨7, _⟩ => ⟨S1024x512, .f32⟩
  | .hbm, ⟨8, _⟩ => ⟨S1024x512, .f32⟩
  | .hbm, ⟨9, _⟩ => ⟨S1024x512x1, .f32⟩
  | .hbm, ⟨10, _⟩ => ⟨S1024x512x1x1, .f32⟩
  | .hbm, ⟨11, _⟩ => ⟨S1x1x2x1, .f32⟩
  | .hbm, ⟨12, _⟩ => ⟨S1024x512x2x1, .f32⟩
  | .hbm, ⟨13, _⟩ => ⟨S1024x512x2x1, .f32⟩
  | .hbm, ⟨14, _⟩ => ⟨S1024x512x2x1, .f32⟩
  | .hbm, ⟨15, _⟩ => ⟨S1024x512x2x1, .f32⟩
  | .hbm, ⟨16, _⟩ => ⟨S_, .f32⟩
  | .hbm, ⟨17, _⟩ => ⟨S1024x512x2, .f32⟩
  | .hbm, ⟨18, _⟩ => ⟨S1024x512x2, .i32⟩
  | .hbm, ⟨19, _⟩ => ⟨S_, .f32⟩
  | .hbm, ⟨20, _⟩ => ⟨S_, .i32⟩
  | .hbm, ⟨21, _⟩ => ⟨S1024x512, .f32⟩
  | .hbm, ⟨22, _⟩ => ⟨S1024x512, .i32⟩
  | .hbm, ⟨23, _⟩ => ⟨S_, .i32⟩
  | .hbm, ⟨24, _⟩ => ⟨S1024x512, .i32⟩
  | .hbm, ⟨25, _⟩ => ⟨S1024x512, .i1⟩
  | .hbm, ⟨26, _⟩ => ⟨S_, .i32⟩
  | .hbm, ⟨27, _⟩ => ⟨S1024x512, .i32⟩
  | .hbm, ⟨28, _⟩ => ⟨S1024x512, .i32⟩
  | .hbm, ⟨29, _⟩ => ⟨S1024x512, .i32⟩
  | .hbm, ⟨30, _⟩ => ⟨S1024x512x1, .i32⟩
  | .hbm, ⟨31, _⟩ => ⟨S1, .i32⟩
  | .hbm, ⟨32, _⟩ => ⟨S_, .i32⟩
  | .hbm, ⟨33, _⟩ => ⟨S1024x512x1, .i32⟩
  | .hbm, ⟨34, _⟩ => ⟨S1024x512x1, .i1⟩
  | .hbm, ⟨35, _⟩ => ⟨S1x1x1, .i32⟩
  | .hbm, ⟨36, _⟩ => ⟨S1024x512x1, .i32⟩
  | .hbm, ⟨37, _⟩ => ⟨S1024x512x1, .i1⟩
  | .hbm, ⟨38, _⟩ => ⟨S1024x512x1, .i1⟩
  | .hbm, ⟨39, _⟩ => ⟨S_, .i1⟩
  | .hbm, ⟨40, _⟩ => ⟨S1024x512, .i1⟩
  | .hbm, ⟨41, _⟩ => ⟨S1024x512x1, .f32⟩
  | .hbm, ⟨42, _⟩ => ⟨S1024x512x1, .i1⟩
  | .hbm, ⟨43, _⟩ => ⟨S_, .f32⟩
  | .hbm, ⟨44, _⟩ => ⟨S1024x512x1, .f32⟩
  | .hbm, ⟨45, _⟩ => ⟨S1024x512x1, .f32⟩
  | .hbm, ⟨46, _⟩ => ⟨S1024x512x1, .f32⟩
  | .hbm, ⟨47, _⟩ => ⟨S1024x512x1, .f32⟩
  | .hbm, ⟨48, _⟩ => ⟨S1024x512, .f32⟩
  | .hbm, ⟨49, _⟩ => ⟨S1024x1x512, .f32⟩
  | .hbm, ⟨50, _⟩ => ⟨S1x256x512, .f32⟩
  | .hbm, ⟨51, _⟩ => ⟨S1024x256x512, .f32⟩
  | .hbm, ⟨52, _⟩ => ⟨S1024x256x512, .f32⟩
  | .hbm, ⟨53, _⟩ => ⟨S1024x256x512, .f32⟩
  | .hbm, ⟨54, _⟩ => ⟨S1024x256x512, .f32⟩
  | .hbm, ⟨55, _⟩ => ⟨S1024x256x512, .f32⟩
  | .hbm, ⟨56, _⟩ => ⟨S_, .f32⟩
  | .hbm, ⟨57, _⟩ => ⟨S1024x256, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_call0_v0 : Ref sig .tc := ⟨.hbm, 18, rfl⟩
abbrev main_call0_cst : Ref sig .tc := ⟨.hbm, 19, rfl⟩
abbrev main_call0_c : Ref sig .tc := ⟨.hbm, 20, rfl⟩
abbrev main_call0_v1_0 : Ref sig .tc := ⟨.hbm, 21, rfl⟩
abbrev main_v12 : Ref sig .tc := ⟨.hbm, 22, rfl⟩
abbrev main_call1_c : Ref sig .tc := ⟨.hbm, 23, rfl⟩
abbrev main_call1_v0 : Ref sig .tc := ⟨.hbm, 24, rfl⟩
abbrev main_call1_v1 : Ref sig .tc := ⟨.hbm, 25, rfl⟩
abbrev main_call1_c_0 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_c_1 : Ref sig .tc := ⟨.hbm, 31, rfl⟩
abbrev main_call1_c_2 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_c_3 : Ref sig .tc := ⟨.hbm, 39, rfl⟩
abbrev main_call1_v12 : Ref sig .tc := ⟨.hbm, 40, rfl⟩
abbrev main_call1_v13 : Ref sig .tc := ⟨.hbm, 41, rfl⟩
abbrev main_call1_v14 : Ref sig .tc := ⟨.hbm, 42, rfl⟩
abbrev main_call1_cst : Ref sig .tc := ⟨.hbm, 43, rfl⟩
abbrev main_call1_v15 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_cst_1 : Ref sig .tc := ⟨.hbm, 56, rfl⟩
abbrev main_v24 : Ref sig .tc := ⟨.hbm, 57, rfl⟩

abbrev nD : Nat := 1
abbrev τ : Topo := Topo.v7x

variable {F : FTy → Type} [FloatOps F]
-- ==== Proof.RefRun.lean ====
/-
  What the reference computes, as one term of its four arguments.

  The reference's `main` is a straight line of host operations once the bodies of its three local functions
  (`argmin`, `_take` and the `_where` inside it) stand where they are called. `ops` lists that line, `main_eq` says the
  list is `main`, and `out_eq` reads the result off it as `out`, composed of five stages:

  * `codebook` — the two code words 0 and 1;
  * `feats` — the linear layer `x @ W + b`, one trailing axis added;
  * `dists` — each feature's squared distance to each code word;
  * `nearest` — the index of the smaller of the two distances;
  * `taken` — the code word at that index;
  * `scores` — the straight-through sum `z + (q - z)`, and `Σ (q * p - q)` over the features.

  `run` and `frame` are the run itself: the result, the arguments unchanged, every counter zero.
-/
module

public import proofs.«01_k».proof.Defs
public import Idealize.ShloMosaic.Lib.StableHlo.Run
public import proofs.«01_k».proof.Proof.Gen.ReferenceIdeal
public import Idealize.ShloMosaic.Lib.Quiescent
public import Idealize.ShloMosaic.Adequacy
public import Idealize.ShloMosaic.Init

@[expose] public section

namespace Cert.Proof.Ref

open Idealize.ShloMosaic Idealize.ShloMosaic.StableHlo Idealize.SL.Sem
open Cert.ReferenceIdeal Cert.ReferenceIdeal.Facts₀ Cert.ReferenceIdeal.Facts

noncomputable section

variable {F : FTy → Type} [FloatOps F]

/-! ## The stages -/

/-- The code words, 0 and 1. -/
def codebook : FVec F S2x1 .f32 := fun i => FloatOps.ofBits .f32 (lit0 (S2x1.rowMajor i))

/-- The linear layer `x @ W + b`, with a trailing axis of length one. -/
def feats (x : FVec F S1024x4096 .f32) (w : FVec F S4096x512 .f32) (b : FVec F S512 .f32) : FVec F S1024x512x1 .f32 :=
  shapeCast S1024x512x1
    (addf (Host.dotGeneral dot_S1024x4096_S4096x512_S1024x512_1_0_0_1_n_n none x w)
      (broadcastInDim S1024x512 ![0, 1] bcast_S1x512_S1024x512_0_1 (broadcastInDim S1x512 ![1] bcast_S512_S1x512_1 b)))
    shapeCasts_S1024x512_S1024x512x1

/-- Feature less code word, for every feature and both code words. -/
def gaps (z : FVec F S1024x512x1 .f32) : FVec F S1024x512x2x1 .f32 :=
  subf
    (broadcastInDim S1024x512x2x1 ![0, 1, 2, 3] bcast_S1024x512x1x1_S1024x512x2x1_0_1_2_3
      (broadcastInDim S1024x512x1x1 ![0, 1, 3] bcast_S1024x512x1_S1024x512x1x1_0_1_3 z))
    (broadcastInDim S1024x512x2x1 ![0, 1, 2, 3] bcast_S1x1x2x1_S1024x512x2x1_0_1_2_3
      (broadcastInDim S1x1x2x1 ![2, 3] bcast_S2x1_S1x1x2x1_2_3 codebook))

/-- The squared distances. -/
def dists (z : FVec F S1024x512x1 .f32) : FVec F S1024x512x2 .f32 :=
  Host.reduceAdd (mulf (gaps z) (gaps z)) (constant S_ .f32 0x00000000#32) reducesTo_S1024x512x2x1_S1024x512x2_d3 h_S_

/-- The index of the nearer code word. -/
def nearest (d : FVec F S1024x512x2 .f32) : IVec S1024x512 32 := fun j =>
  (Host.argReduce reducer_argmin_f32_i32 d (iotaInDim S1024x512x2 32 2) (constant S_ .f32 0x7F800000#32)
    (constantI S_ 32 0#32) reducesTo_S1024x512x2_S1024x512_d2 h_S_ j).2

/-- The index as `take` reads it: two is added to a negative one. -/
def wrapped (k : IVec S1024x512 32) : IVec S1024x512x1 32 :=
  broadcastInDim S1024x512x1 ![0, 1] bcast_S1024x512_S1024x512x1_0_1
    (select (cmpi .slt k (broadcastInDim S1024x512 ![] bcast_S_S1024x512 (constantI S_ 32 0#32)))
      (addi k (broadcastInDim S1024x512 ![] bcast_S_S1024x512 (constantI S_ 32 2#32))) k)

/-- Whether the wrapped index lies in the codebook. -/
def inside (w : IVec S1024x512x1 32) : IVec S1024x512x1 1 :=
  broadcastInDim S1024x512x1 ![0, 1] bcast_S1024x512_S1024x512x1_0_1
    (Host.reduce IntOp.andi
      (andi (cmpi .sge w (broadcastInDim S1024x512x1 ![] bcast_S_S1024x512x1 (constantI S_ 32 0#32)))
        (cmpi .sle w (broadcastInDim S1024x512x1 ![0, 1, 2] bcast_S1x1x1_S1024x512x1_0_1_2
          (broadcastInDim S1x1x1 ![2] bcast_S1_S1x1x1_2 (constantI S1 32 1#32)))))
      (constantI S_ 1 1#1) reducesTo_S1024x512x1_S1024x512_d2 h_S_)

/-- The code word at index `k`. -/
def taken (k : IVec S1024x512 32) : FVec F S1024x512x1 .f32 :=
  select (inside (wrapped k))
    (Host.gather gather_S2x1_S1024x512x1_S1024x512x1_2_0_n_n_0_2_11 codebook (wrapped k))
    (broadcastInDim S1024x512x1 ![] bcast_S_S1024x512x1 (constant S_ .f32 0x7FC00000#32))

/-- The straight-through sum `z + (q - z)`, as one row of features to each input row. -/
def through (z q : FVec F S1024x512x1 .f32) : FVec F S1024x1x512 .f32 :=
  shapeCast S1024x1x512 (shapeCast S1024x512 (addf z (subf q z)) shapeCasts_S1024x512x1_S1024x512)
    shapeCasts_S1024x512_S1024x1x512

/-- `Σ (f * p - f)` over the features, for every row and predicate. -/
def scores (f : FVec F S1024x1x512 .f32) (p : FVec F S256x512 .f32) : FVec F S1024x256 .f32 :=
  Host.reduceAdd
    (subf
      (mulf (broadcastInDim S1024x256x512 ![0, 1, 2] bcast_S1024x1x512_S1024x256x512_0_1_2 f)
        (broadcastInDim S1024x256x512 ![0, 1, 2] bcast_S1x256x512_S1024x256x512_0_1_2
          (broadcastInDim S1x256x512 ![1, 2] bcast_S256x512_S1x256x512_1_2 p)))
      (broadcastInDim S1024x256x512 ![0, 1, 2] bcast_S1024x1x512_S1024x256x512_0_1_2 f))
    (constant S_ .f32 0x00000000#32) reducesTo_S1024x256x512_S1024x256_d2 h_S_

/-- The reference's result. -/
def out (x : FVec F S1024x4096 .f32) (w : FVec F S4096x512 .f32) (b : FVec F S512 .f32) (p : FVec F S256x512 .f32) :
    FVec F S1024x256 .f32 :=
  scores (through (feats x w b) (taken (nearest (dists (feats x w b))))) p

/-! ## The line of operations -/

/-- The reference's operations in order, the local functions' among them. -/
abbrev ops : List (HloOp τ sig (Elt F)) :=
  [ nullary main_cst (fun i => FloatOps.ofBits .f32 (lit0 (S2x1.rowMajor i))),
    binary main_arg0 main_arg1 main_v0 (Host.dotGeneral dot_S1024x4096_S4096x512_S1024x512_1_0_0_1_n_n none · ·),
    unary main_arg2 main_v1 (broadcastInDim S1x512 ![1] bcast_S512_S1x512_1),
    unary main_v1 main_v2 (broadcastInDim S1024x512 ![0, 1] bcast_S1x512_S1024x512_0_1),
    binary main_v0 main_v2 main_v3 addf,
    reshape main_v3 main_v4 (rfl : (.f32 : EltTy) = .f32) shapeCasts_S1024x512_S1024x512x1,
    unary main_v4 main_v5 (broadcastInDim S1024x512x1x1 ![0, 1, 3] bcast_S1024x512x1_S1024x512x1x1_0_1_3),
    unary main_cst main_v6 (broadcastInDim S1x1x2x1 ![2, 3] bcast_S2x1_S1x1x2x1_2_3),
    unary main_v5 main_v7 (broadcastInDim S1024x512x2x1 ![0, 1, 2, 3] bcast_S1024x512x1x1_S1024x512x2x1_0_1_2_3),
    unary main_v6 main_v8 (broadcastInDim S1024x512x2x1 ![0, 1, 2, 3] bcast_S1x1x2x1_S1024x512x2x1_0_1_2_3),
    binary main_v7 main_v8 main_v9 subf,
    binary main_v9 main_v9 main_v10 mulf,
    nullary main_cst_0 (constant S_ .f32 0x00000000#32),
    binary main_v10 main_cst_0 main_v11 (fun x v => Host.reduceAdd x v reducesTo_S1024x512x2x1_S1024x512x2_d3 h_S_),
    nullary main_call0_v0 (iotaInDim S1024x512x2 32 2),
    nullary main_call0_cst (constant S_ .f32 0x7F800000#32),
    nullary main_call0_c (constantI S_ 32 0#32),
    quaternary main_v11 main_call0_v0 main_call0_cst main_call0_c main_call0_v1_0 (fun x y u v j => (Host.argReduce reducer_argmin_f32_i32 x y u v reducesTo_S1024x512x2_S1024x512_d2 h_S_ j).1),
    quaternary main_v11 main_call0_v0 main_call0_cst main_call0_c main_v12 (fun x y u v j => (Host.argReduce reducer_argmin_f32_i32 x y u v reducesTo_S1024x512x2_S1024x512_d2 h_S_ j).2),
    nullary main_call1_c (constantI S_ 32 0#32),
    unary main_call1_c main_call1_v0 (broadcastInDim S1024x512 ![] bcast_S_S1024x512),
    binary main_v12 main_call1_v0 main_call1_v1 (cmpi .slt),
    nullary main_call1_c_0 (constantI S_ 32 2#32),
    unary main_call1_c_0 main_call1_v2 (broadcastInDim S1024x512 ![] bcast_S_S1024x512),
    binary main_v12 main_call1_v2 main_call1_v3 addi,
    ternary main_call1_v1 main_call1_v3 main_v12 main_call1_v4 select,
    unary main_call1_v4 main_call1_v5 (broadcastInDim S1024x512x1 ![0, 1] bcast_S1024x512_S1024x512x1_0_1),
    nullary main_call1_c_1 (constantI S1 32 1#32),
    nullary main_call1_c_2 (constantI S_ 32 0#32),
    unary main_call1_c_2 main_call1_v6 (broadcastInDim S1024x512x1 ![] bcast_S_S1024x512x1),
    binary main_call1_v5 main_call1_v6 main_call1_v7 (cmpi .sge),
    unary main_call1_c_1 main_call1_v8 (broadcastInDim S1x1x1 ![2] bcast_S1_S1x1x1_2),
    unary main_call1_v8 main_call1_v9 (broadcastInDim S1024x512x1 ![0, 1, 2] bcast_S1x1x1_S1024x512x1_0_1_2),
    binary main_call1_v5 main_call1_v9 main_call1_v10 (cmpi .sle),
    binary main_call1_v7 main_call1_v10 main_call1_v11 andi,
    nullary main_call1_c_3 (constantI S_ 1 1#1),
    binary main_call1_v11 main_call1_c_3 main_call1_v12 (fun x v => Host.reduce IntOp.andi x v reducesTo_S1024x512x1_S1024x512_d2 h_S_),
    binary main_cst main_call1_v5 main_call1_v13 (fun x i => Host.gather gather_S2x1_S1024x512x1_S1024x512x1_2_0_n_n_0_2_11 x i),
    unary main_call1_v12 main_call1_v14 (broadcastInDim S1024x512x1 ![0, 1] bcast_S1024x512_S1024x512x1_0_1),
    nullary main_call1_cst (constant S_ .f32 0x7FC00000#32),
    unary main_call1_cst main_call1_v15 (broadcastInDim S1024x512x1 ![] bcast_S_S1024x512x1),
    ternary main_call1_v14 main_call1_v13 main_call1_v15 main_v13 select,
    binary main_v13 main_v4 main_v14 subf,
    binary main_v4 main_v14 main_v15 addf,
    reshape main_v15 main_v16 (rfl : (.f32 : EltTy) = .f32) shapeCasts_S1024x512x1_S1024x512,
    reshape main_v16 main_v17 (rfl : (.f32 : EltTy) = .f32) shapeCasts_S1024x512_S1024x1x512,
    unary main_arg3 main_v18 (broadcastInDim S1x256x512 ![1, 2] bcast_S256x512_S1x256x512_1_2),
    unary main_v17 main_v19 (broadcastInDim S1024x256x512 ![0, 1, 2] bcast_S1024x1x512_S1024x256x512_0_1_2),
    unary main_v18 main_v20 (broadcastInDim S1024x256x512 ![0, 1, 2] bcast_S1x256x512_S1024x256x512_0_1_2),
    binary main_v19 main_v20 main_v21 mulf,
    unary main_v17 main_v22 (broadcastInDim S1024x256x512 ![0, 1, 2] bcast_S1024x1x512_S1024x256x512_0_1_2),
    binary main_v21 main_v22 main_v23 subf,
    nullary main_cst_1 (constant S_ .f32 0x00000000#32),
    binary main_v23 main_cst_1 main_v24 (fun x v => Host.reduceAdd x v reducesTo_S1024x256x512_S1024x256_d2 h_S_) ]

-- the reduction over an axis of length one stays folded: the two spellings of the line agree without opening it
attribute [local irreducible] Host.reduce in
set_option maxRecDepth 4096 in
theorem main_eq (c : Dev nD) : main (F := F) c = seq ops := by
  simp only [main, fn_argmin.body, fn_take.body, fn_where.body, seq, bind_assoc, pure_bind]
  rfl

theorem out_eq (V : Valuation τ sig (Elt F)) :
    after ops V (Proc.devRef .tc main_v24)
      = out (V (Proc.devRef .tc main_arg0)) (V (Proc.devRef .tc main_arg1)) (V (Proc.devRef .tc main_arg2))
          (V (Proc.devRef .tc main_arg3)) := by
  after_results_simp
  rfl

theorem arg0_eq (V : Valuation τ sig (Elt F)) :
    after ops V (Proc.devRef .tc main_arg0) = V (Proc.devRef .tc main_arg0) := by
  simp only [after_cons, after_nil]
  rfl

theorem arg1_eq (V : Valuation τ sig (Elt F)) :
    after ops V (Proc.devRef .tc main_arg1) = V (Proc.devRef .tc main_arg1) := by
  simp only [after_cons, after_nil]
  rfl

theorem arg2_eq (V : Valuation τ sig (Elt F)) :
    after ops V (Proc.devRef .tc main_arg2) = V (Proc.devRef .tc main_arg2) := by
  simp only [after_cons, after_nil]
  rfl

theorem arg3_eq (V : Valuation τ sig (Elt F)) :
    after ops V (Proc.devRef .tc main_arg3) = V (Proc.devRef .tc main_arg3) := by
  simp only [after_cons, after_nil]
  rfl

theorem scopedRefs_eq : (Finset.univ.filter fun b : Ref sig .tc => b.isScoped) = ∅ := by decide
theorem scopedSems_eq : (Finset.univ.filter fun s : SemLoc sig => s.isScoped .tc) = ∅ := by decide

theorem ops_sub : (ops : List (HloOp τ sig (Elt F))).Forall fun op => op.bufs ⊆ tcRefs τ sig :=
  ⟨nullary_bufs_sub .., binary_bufs_sub .., unary_bufs_sub .., unary_bufs_sub .., binary_bufs_sub ..,
    reshape_bufs_sub .., unary_bufs_sub .., unary_bufs_sub .., unary_bufs_sub .., unary_bufs_sub ..,
    binary_bufs_sub .., binary_bufs_sub .., nullary_bufs_sub .., binary_bufs_sub .., nullary_bufs_sub ..,
    nullary_bufs_sub .., nullary_bufs_sub .., quaternary_bufs_sub .., quaternary_bufs_sub ..,
    nullary_bufs_sub .., unary_bufs_sub .., binary_bufs_sub .., nullary_bufs_sub .., unary_bufs_sub ..,
    binary_bufs_sub .., ternary_bufs_sub .., unary_bufs_sub .., nullary_bufs_sub .., nullary_bufs_sub ..,
    unary_bufs_sub .., binary_bufs_sub .., unary_bufs_sub .., unary_bufs_sub .., binary_bufs_sub ..,
    binary_bufs_sub .., nullary_bufs_sub .., binary_bufs_sub .., binary_bufs_sub .., unary_bufs_sub ..,
    nullary_bufs_sub .., unary_bufs_sub .., ternary_bufs_sub .., binary_bufs_sub .., binary_bufs_sub ..,
    reshape_bufs_sub .., reshape_bufs_sub .., unary_bufs_sub .., unary_bufs_sub .., unary_bufs_sub ..,
    binary_bufs_sub .., unary_bufs_sub .., binary_bufs_sub .., nullary_bufs_sub .., binary_bufs_sub ..⟩

/-! ## The run -/

/-- Every run ends with each buffer holding what the line of operations leaves there. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ

/-- The reference runs, and leaves its arguments as they were and every counter at zero. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0 :=
  (θ_run defs _ _).mono
    (fun r h => ⟨fun c => ⟨(h c main_arg0).trans (arg0_eq _), (h c main_arg1).trans (arg1_eq _),
      (h c main_arg2).trans (arg2_eq _), (h c main_arg3).trans (arg3_eq _)⟩,
      sem_eq_zero_of_no_sems (by decide) r.2⟩)
    (run_main m ρ)

/-- The reference runs, its result is `out` of its arguments, and its arguments stay as they were. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ c : Dev nD,
        r.2.mem ((c.tc : Thread nD τ).loc main_v24)
            = out (F := Ideal) (m ((c.tc : Thread nD τ).loc main_arg0)) (m ((c.tc : Thread nD τ).loc main_arg1))
                (m ((c.tc : Thread nD τ).loc main_arg2)) (m ((c.tc : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3) :=
  (θ_run defs _ _).mono
    (fun _ h c => ⟨(h c main_v24).trans (out_eq _), (h c main_arg0).trans (arg0_eq _),
      (h c main_arg1).trans (arg1_eq _), (h c main_arg2).trans (arg2_eq _), (h c main_arg3).trans (arg3_eq _)⟩)
    (run_main m ρ)

end

end Cert.Proof.Ref
-- ==== Proof.Finite.lean ====
/-
  What the precondition says.

  `finite` asks that the magnitudes of the inputs, the weights and the biases lie below infinity; on the extended reals
  an entry with such a magnitude is a real number.
-/
module

public import proofs.«01_k».proof.Defs
public import proofs.«01_k».proof.Proof.Gen.Pre_finite
public import Idealize.ShloMosaic.Lib.Pointwise
public import Idealize.ShloMosaic.Lib.ReduceAll

@[expose] public section

set_option maxRecDepth 16384

namespace Cert.Proof.Pre

open Idealize.ShloMosaic
open Cert.Pre_finite Cert.Pre_finite.Facts

/-- There is one index of a scalar. -/
instance : Subsingleton S_.Idx := ⟨fun _ _ => funext fun a => a.elim0⟩

/-- The constant infinity. -/
theorem top_word : Ideal.ofBits .f32 0x7F800000#32 = (⊤ : EReal) := by
  simp [Ideal.ofBits, Ideal.ieee]

/-- A magnitude below infinity belongs to a real number. -/
theorem real_of_abs (v : Ideal .f32)
    (h : FloatOps.cmpf .olt (FloatOps.hostAbsf v) (FloatOps.ofBits .f32 0x7F800000#32) = 1#1) :
    ∃ r : ℝ, (v : EReal) = (r : EReal) := by
  have hlt : max (v : EReal) (-v) < (⊤ : EReal) := by
    by_contra hn
    have h' : BitVec.ofBool (decide (max (v : EReal) (-v) < Ideal.ofBits .f32 0x7F800000#32)) = 1#1 := h
    rw [top_word, decide_eq_false hn] at h'
    exact absurd h' (by decide)
  have ht : (v : EReal) ≠ ⊤ := fun e => absurd (lt_of_le_of_lt (le_max_left _ _) hlt) (by rw [e]; exact lt_irrefl _)
  have hb : (v : EReal) ≠ ⊥ := fun e =>
    absurd (lt_of_le_of_lt (le_max_right _ _) hlt) (by rw [e, EReal.neg_bot]; exact lt_irrefl _)
  exact ⟨(v : EReal).toReal, (EReal.coe_toReal ht hb).symm⟩

variable (x : FVec Ideal S1024x4096 .f32) (w : FVec Ideal S4096x512 .f32) (b : FVec Ideal S512 .f32)
  (p : FVec Ideal S256x512 .f32)

/-- Under `finite` every input, every weight and every bias is a real number. -/
theorem real_of_finite (h : Cert.Pre_finite.fn (F := Ideal) x w b p = fun _ => 1#1) :
    (∀ j, ∃ r : ℝ, (x j : EReal) = (r : EReal)) ∧ (∀ j, ∃ r : ℝ, (w j : EReal) = (r : EReal))
      ∧ (∀ j, ∃ r : ℝ, (b j : EReal) = (r : EReal)) := by
  have h0 := congrFun h (fun a => a.elim0)
  obtain ⟨hxw, hb⟩ := IntOp.andi_eq_one.1 h0
  obtain ⟨hx, hw⟩ := IntOp.andi_eq_one.1 hxw
  exact ⟨fun j => real_of_abs _ (Host.reduce_andi_all _ _ _ _ _ hx j),
    fun j => real_of_abs _ (Host.reduce_andi_all _ _ _ _ _ hw j),
    fun j => real_of_abs _ (Host.reduce_andi_all _ _ _ _ _ hb j)⟩

end Cert.Proof.Pre
-- ==== Proof.KerBlock.lean ====
/-
  What the kernel body computes from one point's blocks, element by element.

  With `xa`, `xb` the two halves of the input rows, `wa`, `wb` the two halves of the weights, `b` the bias row and `p`
  the predicates: the feature sum is `Σ xa * wa + Σ xb * wb`; the feature's bit is 1 when that sum exceeds `1/2 - b`, else
  0; the block's value at row `r`, predicate `c` is the sum over the features of `bit * (p - 1)`.
-/
module

public import proofs.«01_k».proof.Proof.Gen.KernelIdeal.Value
public import Idealize.ShloMosaic.Lib.Pointwise
public import Idealize.ShloMosaic.Lib.IdealHost

@[expose] public section

set_option maxRecDepth 16384

namespace Cert.Proof.Ker

open Idealize.ShloMosaic
open Cert.KernelIdeal Cert.KernelIdeal.Gen

noncomputable section

/-- The bit of a feature: 1 when the sum `s` exceeds one half less the bias `b`, else 0. -/
def bit (s b : EReal) : EReal := if ((1 / 2 : ℝ) : EReal) - b < s then 1 else 0

/-- The constant one half. -/
theorem half_word : Ideal.ofBits .f32 1056964608#32 = ((1 / 2 : ℝ) : EReal) := by
  simp [Ideal.ofBits, Ideal.ieee]
  rw [← EReal.coe_mul]
  norm_num

/-- A true comparison, converted to a float. -/
theorem one_word : (FloatOps.sitofp .f32 (BitVec.setWidth 32 (BitVec.ofBool true)) : Ideal .f32) = (1 : EReal) := by
  show (((BitVec.setWidth 32 (BitVec.ofBool true)).toInt : ℝ) : EReal) = 1
  rw [show (BitVec.setWidth 32 (BitVec.ofBool true)).toInt = 1 from by decide]
  simp

/-- A false comparison, converted to a float. -/
theorem zero_word : (FloatOps.sitofp .f32 (BitVec.setWidth 32 (BitVec.ofBool false)) : Ideal .f32) = (0 : EReal) := by
  show (((BitVec.setWidth 32 (BitVec.ofBool false)).toInt : ℝ) : EReal) = 0
  rw [show (BitVec.setWidth 32 (BitVec.ofBool false)).toInt = 0 from by decide]
  simp

/-- The body's payload at row `r`, predicate `c`. -/
theorem pay_apply (xa : FVec Ideal S512x2048 .f32) (wa : FVec Ideal S2048x512 .f32) (xb : FVec Ideal S512x2048 .f32)
    (wb : FVec Ideal S2048x512 .f32) (b : FVec Ideal S1x512 .f32) (p : FVec Ideal S256x512 .f32)
    (r : Fin 512) (c : Fin 256) :
    k0_pay1 (F := Ideal) xa wa xb wb b p (ix2 r c)
      = ∑ f : Fin 512, bit ((∑ k : Fin 2048, (xa (ix2 r k) : EReal) * wa (ix2 k f))
          + ∑ k : Fin 2048, (xb (ix2 r k) : EReal) * wb (ix2 k f)) (b (ix2 0 f)) * ((p (ix2 c f) : EReal) - 1) := by
  pointwise [k0_pay1]
  refine Finset.sum_congr rfl fun f _ => congrArg (· * ((p (ix2 c f) : EReal) - 1)) ?_
  rw [half_word]
  unfold bit
  split
  · rename_i h
    rw [decide_eq_true h]
    exact one_word
  · rename_i h
    rw [decide_eq_false h]
    exact zero_word

end

end Cert.Proof.Ker
-- ==== Proof.KerArray.lean ====
/-
  What the kernel's result array holds, element by element.

  Point `t` of the grid writes rows `512 t` to `512 t + 511`, computed from the same rows of the input (its left and its
  right half of columns), the two halves of the weights, the bias and the predicates. So the element at row `i`,
  predicate `c` is `value … i c`, a formula in the four arguments in which the blocks no longer appear.
-/
module

public import proofs.«01_k».proof.Proof.KerBlock
public import Idealize.ShloMosaic.Lib.Pipeline.ValueKit
public import Idealize.ShloMosaic.Lib.Claim

@[expose] public section

set_option maxRecDepth 16384

namespace Cert.Proof.Ker

open Idealize.ShloMosaic Idealize.ShloMosaic.TcCoe Idealize.SL.Sem
open Cert.KernelIdeal Cert.KernelIdeal.Gen

noncomputable section

/-- Column `k` of the left half. -/
def lo (k : Fin 2048) : Fin 4096 := ⟨k.val, by omega⟩

/-- Column `k` of the right half. -/
def hi (k : Fin 2048) : Fin 4096 := ⟨2048 + k.val, by omega⟩

/-- The kernel's feature sum, in two halves. -/
def halves (x : FVec Ideal S1024x4096 .f32) (w : FVec Ideal S4096x512 .f32) (i : Fin 1024) (f : Fin 512) : EReal :=
  (∑ k : Fin 2048, (x (ix2 i (lo k)) : EReal) * w (ix2 (lo k) f))
    + ∑ k : Fin 2048, (x (ix2 i (hi k)) : EReal) * w (ix2 (hi k) f)

/-- The kernel's result at row `i`, predicate `c`. -/
def value (x : FVec Ideal S1024x4096 .f32) (w : FVec Ideal S4096x512 .f32) (b : FVec Ideal S512 .f32)
    (p : FVec Ideal S256x512 .f32) (i : Fin 1024) (c : Fin 256) : EReal :=
  ∑ f : Fin 512, bit (halves x w i f) (b (ix1 f)) * ((p (ix2 c f) : EReal) - 1)

/-- The result array as a vector. -/
def result (x : FVec Ideal S1024x4096 .f32) (w : FVec Ideal S4096x512 .f32) (b : FVec Ideal S512 .f32)
    (p : FVec Ideal S256x512 .f32) : FVec Ideal S1024x256 .f32 := fun j => value x w b p (j 0) (j 1)

variable (m : (ℓ : Loc nD τ sig) → Buf (Elt Ideal) ℓ) (ρ : Dev nD → PrngReg)

/-- The block of each window at each point. -/
theorem index_eq : ∀ t : Fin cfg0.N, win0_0.index t = ![t.val, 0] ∧ win0_1.index t = ![t.val, 1]
    ∧ win0_2.index t = ![0, 0] ∧ win0_3.index t = ![1, 0] ∧ win0_4.index t = ![0, 0] ∧ win0_5.index t = ![0, 0]
    ∧ win0_6.index t = ![t.val, 0] :=
  (by decide +kernel : ∀ t : Fin grid0.N, win0_0.index t = ![t.val, 0] ∧ win0_1.index t = ![t.val, 1]
    ∧ win0_2.index t = ![0, 0] ∧ win0_3.index t = ![1, 0] ∧ win0_4.index t = ![0, 0] ∧ win0_5.index t = ![0, 0]
    ∧ win0_6.index t = ![t.val, 0])

/-- Row `r` of block `t`. -/
def row (t : Fin cfg0.N) (r : Fin 512) : Fin 1024 :=
  ⟨t.val * 512 + r.val, by have h : t.val < 2 := t.isLt; omega⟩

/-- The left half of the input rows of block `t`. -/
theorem left_apply (c : Dev nD) (t : Fin cfg0.N) (r : Fin 512) (k : Fin 2048) :
    iblk m c 0 t (ix2 r k) = m ((c : Thread nD τ).loc main_arg0) (ix2 (row t r) (lo k)) := by
  obtain ⟨h0, h1, h2, h3, h4, h5, h6⟩ := index_eq t
  blk_ext [iblk, V, h0, row, lo]

/-- The right half of the input rows of block `t`. -/
theorem right_apply (c : Dev nD) (t : Fin cfg0.N) (r : Fin 512) (k : Fin 2048) :
    iblk m c 1 t (ix2 r k) = m ((c : Thread nD τ).loc main_arg0) (ix2 (row t r) (hi k)) := by
  obtain ⟨h0, h1, h2, h3, h4, h5, h6⟩ := index_eq t
  blk_ext [iblk, V, h1, row, hi]

/-- The upper half of the weights, which meets the left half of the columns. -/
theorem upper_apply (c : Dev nD) (t : Fin cfg0.N) (k : Fin 2048) (f : Fin 512) :
    iblk m c 2 t (ix2 k f) = m ((c : Thread nD τ).loc main_arg1) (ix2 (lo k) f) := by
  obtain ⟨h0, h1, h2, h3, h4, h5, h6⟩ := index_eq t
  blk_ext [iblk, V, h2, lo]

/-- The lower half of the weights, which meets the right half of the columns. -/
theorem lower_apply (c : Dev nD) (t : Fin cfg0.N) (k : Fin 2048) (f : Fin 512) :
    iblk m c 3 t (ix2 k f) = m ((c : Thread nD τ).loc main_arg1) (ix2 (hi k) f) := by
  obtain ⟨h0, h1, h2, h3, h4, h5, h6⟩ := index_eq t
  blk_ext [iblk, V, h3, hi]

/-- The bias row, which the host reshapes from the bias vector. -/
theorem bias_apply (c : Dev nD) (t : Fin cfg0.N) (f : Fin 512) :
    iblk m c 4 t (ix2 0 f) = m ((c : Thread nD τ).loc main_arg2) (ix1 f) := by
  obtain ⟨h0, h1, h2, h3, h4, h5, h6⟩ := index_eq t
  blk_ext! [iblk, V, h4]

/-- The predicates, whole at every point. -/
theorem preds_apply (c : Dev nD) (t : Fin cfg0.N) (q : Fin 256) (f : Fin 512) :
    iblk m c 5 t (ix2 q f) = m ((c : Thread nD τ).loc main_arg3) (ix2 q f) := by
  obtain ⟨h0, h1, h2, h3, h4, h5, h6⟩ := index_eq t
  blk_ext [iblk, V, h5]

/-- Row `r`, predicate `q` of what point `t` writes. -/
theorem block_apply (c : Dev nD) (t : Fin cfg0.N) (r : Fin 512) (q : Fin 256) :
    k0_pay1 (F := Ideal) (iblk m c 0 t) (iblk m c 2 t) (iblk m c 1 t) (iblk m c 3 t) (iblk m c 4 t) (iblk m c 5 t) (ix2 r q)
      = value (m ((c : Thread nD τ).loc main_arg0)) (m ((c : Thread nD τ).loc main_arg1))
        (m ((c : Thread nD τ).loc main_arg2)) (m ((c : Thread nD τ).loc main_arg3)) (row t r) q := by
  refine (pay_apply _ _ _ _ _ _ r q).trans ?_
  unfold value halves
  refine Finset.sum_congr rfl fun f _ => ?_
  rw [bias_apply, preds_apply]
  simp only [left_apply, right_apply, upper_apply, lower_apply]

/-- An index of a block, by its coordinates. -/
theorem coords_eq (y : S512x256.Idx) : y = ix2 (y 0 : Fin 512) (y 1 : Fin 256) := by idx_ext

/-- Where row `r`, column `q` of block `t` lies in the result array. -/
theorem place_eq (t : Fin cfg0.N) (r : Fin 512) (q : Fin 256) :
    (((View.whole main_v1).slice (win0_6.rect t)).emb (ix2 r q) : S1024x256.Idx) = ix2 (row t r) q := by
  obtain ⟨h0, h1, h2, h3, h4, h5, h6⟩ := index_eq t
  blk_ext [row, h6]

/-- The result array after the run: the points' blocks tile it, and each block is `result` there. -/
theorem arr_eq (c : Dev nD) : (dats m 0 c).arrAt 6 cfg0.N
    = result (m ((c : Thread nD τ).loc main_arg0)) (m ((c : Thread nD τ).loc main_arg1))
        (m ((c : Thread nD τ).loc main_arg2)) (m ((c : Thread nD τ).loc main_arg3)) := by
  refine (dats m 0 c).arrAt_eq_of_covers 6 _ (by decide +kernel) fun t hf y => ?_
  blk_simp
  rw [after0_6]
  frame_out
  revert y
  show ∀ y : S512x256.Idx, _
  intro y
  rw [coords_eq y]
  refine (block_apply m c t _ _).trans ?_
  exact (congrArg (result (m ((c : Thread nD τ).loc main_arg0)) (m ((c : Thread nD τ).loc main_arg1))
        (m ((c : Thread nD τ).loc main_arg2)) (m ((c : Thread nD τ).loc main_arg3))) (place_eq t (y 0) (y 1))).symm

end

end Cert.Proof.Ker
-- ==== Proof.RefPick.lean ====
/-
  How the reference picks a code word for one feature.

  `nearest_apply`: the index of the smaller of two distances is 0 when the first is at most the second, else 1.
  `taken_apply`: `take` at such an index reads the codebook there; its bounds mask holds and it wraps nothing.
  `codebook_zero`, `codebook_one`: the two code words are 0 and 1.
-/
module

public import proofs.«01_k».proof.Proof.RefRun
public import Idealize.ShloMosaic.Lib.Pointwise
public import Idealize.ShloMosaic.Lib.IdealHost

@[expose] public section

set_option maxRecDepth 16384

namespace Cert.Proof.Ref

open Idealize.ShloMosaic
open Cert.ReferenceIdeal Cert.ReferenceIdeal.Facts₀ Cert.ReferenceIdeal.Facts

noncomputable section

/-! ## The codebook -/

/-- The first code word. -/
theorem codebook_zero : (codebook : FVec Ideal S2x1 .f32) (ix2 0 0) = 0 := by
  show Ideal.ofBits .f32 (lit0 (S2x1.rowMajor (ix2 0 0))) = 0
  rw [show lit0 (S2x1.rowMajor (ix2 0 0)) = 0x00000000#32 from by decide]
  exact Ideal.ofBits_zero_f32

/-- The second code word. -/
theorem codebook_one : (codebook : FVec Ideal S2x1 .f32) (ix2 1 0) = 1 := by
  show Ideal.ofBits .f32 (lit0 (S2x1.rowMajor (ix2 1 0))) = 1
  rw [show lit0 (S2x1.rowMajor (ix2 1 0)) = 0x3F800000#32 from by decide]
  exact Ideal.ofBits_one_f32

/-! ## The nearer of two distances -/

/-- The positions of the two distances of feature `(i, f)`, in order. -/
theorem fiber_positions (i : Fin 1024) (f : Fin 512) :
    ((List.finRange S1024x512x2.numel).filter fun n =>
        reducesTo_S1024x512x2_S1024x512_d2.drop (S1024x512x2.rowMajor.symm n) = ix2 i f)
      = [S1024x512x2.rowMajor (ix3 i f 0), S1024x512x2.rowMajor (ix3 i f 1)] := by
  have hlt : S1024x512x2.rowMajor (ix3 i f 0) < S1024x512x2.rowMajor (ix3 i f 1) := by
    rw [Fin.lt_def, Shape.rowMajor_val_three, Shape.rowMajor_val_three]
    show (i.val * 512 + f.val) * 2 + 0 < (i.val * 512 + f.val) * 2 + 1
    omega
  refine List.Perm.eq_of_pairwise (le := (· < ·)) ?_ ?_ ?_ ?_
  · exact fun a b _ _ hab hba => absurd hab (not_lt_of_gt hba)
  · exact (List.pairwise_lt_finRange _).filter _
  · simpa using hlt
  · refine (List.perm_ext_iff_of_nodup ((List.nodup_finRange _).filter _) (by simpa using hlt.ne)).2 fun n => ?_
    rw [List.mem_filter]
    simp only [List.mem_finRange, true_and, decide_eq_true_eq, List.mem_cons, List.not_mem_nil, or_false]
    rw [Shape.ReducesTo.fiber_r3_a2]
    constructor
    · rintro ⟨k, hk⟩
      have hn := (Equiv.eq_symm_apply _).1 hk
      rw [← hn]
      match k with
      | ⟨0, _⟩ => exact Or.inl rfl
      | ⟨1, _⟩ => exact Or.inr rfl
    · rintro (rfl | rfl)
      · exact ⟨0, (Equiv.symm_apply_apply _ _).symm⟩
      · exact ⟨1, (Equiv.symm_apply_apply _ _).symm⟩

/-- The reducer keeps the first pair over the initial one. -/
theorem reducer_init (d : Ideal .f32) : reducer_argmin_f32_i32 (F := Ideal) ((⊤ : EReal), 0#32) (d, 0#32) = (d, 0#32) := by
  have h1 : FloatOps.cmpf (F := Ideal) (φ := .f32) .olt (⊤ : EReal) d = 0#1 := by simp [Ideal.cmpf_def, Ideal.cmp]
  have h2 : FloatOps.cmpf (F := Ideal) (φ := .f32) .une (⊤ : EReal) (⊤ : EReal) = 0#1 := by simp [Ideal.cmpf_def, Ideal.cmp]
  unfold reducer_argmin_f32_i32
  simp only [h1, h2]
  refine Prod.ext rfl ?_
  generalize FloatOps.cmpf (F := Ideal) (φ := .f32) .oeq (⊤ : EReal) d = t
  dsimp only
  revert t; decide

/-- Of two pairs of indices 0 and 1 the reducer keeps index 0 when the first value is at most the second. -/
theorem reducer_pair (d e : Ideal .f32) :
    (reducer_argmin_f32_i32 (F := Ideal) (d, 0#32) (e, 1#32)).2 = if (d : EReal) ≤ e then 0#32 else 1#32 := by
  have h2 : FloatOps.cmpf (F := Ideal) (φ := .f32) .une d d = 0#1 := by simp [Ideal.cmpf_def, Ideal.cmp]
  unfold reducer_argmin_f32_i32
  simp only [h2]
  rcases lt_trichotomy (d : EReal) e with h | h | h
  · have h1 : FloatOps.cmpf (F := Ideal) (φ := .f32) .olt d e = 1#1 := by simp [Ideal.cmpf_def, Ideal.cmp, h]
    have h3 : FloatOps.cmpf (F := Ideal) (φ := .f32) .oeq d e = 0#1 := by simp [Ideal.cmpf_def, Ideal.cmp, h.ne]
    rw [h1, h3, if_pos h.le]; rfl
  · have h1 : FloatOps.cmpf (F := Ideal) (φ := .f32) .olt d e = 0#1 := by simp [Ideal.cmpf_def, Ideal.cmp, h]
    have h3 : FloatOps.cmpf (F := Ideal) (φ := .f32) .oeq d e = 1#1 := by simp [Ideal.cmpf_def, Ideal.cmp, h]
    rw [h1, h3, if_pos h.le]; rfl
  · have h1 : FloatOps.cmpf (F := Ideal) (φ := .f32) .olt d e = 0#1 := by simp [Ideal.cmpf_def, Ideal.cmp, h.not_gt]
    have h3 : FloatOps.cmpf (F := Ideal) (φ := .f32) .oeq d e = 0#1 := by simp [Ideal.cmpf_def, Ideal.cmp, h.ne']
    rw [h1, h3, if_neg (not_le.2 h)]; rfl

/-- The two (distance, index) pairs of feature `(i, f)`, in order. -/
theorem fiber_pairs (d : FVec Ideal S1024x512x2 .f32) (i : Fin 1024) (f : Fin 512) :
    Host.argReduceFiber d (iotaInDim S1024x512x2 32 2) reducesTo_S1024x512x2_S1024x512_d2 (ix2 i f)
      = [(d (ix3 i f 0), 0#32), (d (ix3 i f 1), 1#32)] := by
  rw [Host.argReduceFiber, fiber_positions]
  simp only [List.map_cons, List.map_nil, Equiv.symm_apply_apply]
  rfl

/-- The initial pair is +∞ and index 0. -/
theorem initial_pair :
    (constant (F := Ideal) S_ .f32 0x7F800000#32 (Shape.Idx.first h_S_), constantI S_ 32 0#32 (Shape.Idx.first h_S_))
      = ((⊤ : EReal), 0#32) := by
  refine Prod.ext ?_ rfl
  show Ideal.ofBits .f32 0x7F800000#32 = ⊤
  simp [Ideal.ofBits, Ideal.ieee]

/-- The fold over the two pairs of feature `(i, f)`. -/
theorem fold_pairs (d : FVec Ideal S1024x512x2 .f32) (i : Fin 1024) (f : Fin 512) :
    (Host.argReduceFiber d (iotaInDim S1024x512x2 32 2) reducesTo_S1024x512x2_S1024x512_d2 (ix2 i f)).foldl
        (reducer_argmin_f32_i32 (F := Ideal))
        (constant (F := Ideal) S_ .f32 0x7F800000#32 (Shape.Idx.first h_S_), constantI S_ 32 0#32 (Shape.Idx.first h_S_))
      = reducer_argmin_f32_i32 (F := Ideal) (d (ix3 i f 0), 0#32) (d (ix3 i f 1), 1#32) :=
  (congrArg₂ (List.foldl (reducer_argmin_f32_i32 (F := Ideal))) initial_pair (fiber_pairs d i f)).trans
    (congrArg (reducer_argmin_f32_i32 (F := Ideal) · (d (ix3 i f 1), 1#32)) (reducer_init _))

/-- The reduction at feature `(i, f)` is that fold. -/
theorem reduction_fold (d : FVec Ideal S1024x512x2 .f32) (y : IVec S1024x512x2 32) (u : FVec Ideal S_ .f32) (v : IVec S_ 32)
    (j : S1024x512.Idx) :
    Host.argReduce (reducer_argmin_f32_i32 (F := Ideal)) d y u v reducesTo_S1024x512x2_S1024x512_d2 h_S_ j
      = (Host.argReduceFiber d y reducesTo_S1024x512x2_S1024x512_d2 j).foldl (reducer_argmin_f32_i32 (F := Ideal))
          (u (Shape.Idx.first h_S_), v (Shape.Idx.first h_S_)) :=
  (congrFun (Ideal.argReduce_eq_reduce2 _ _ _ _ _ _ _) j).trans (Host.reduce2_eq_foldl_fiber _ _ _ _ _ _ _ _)

/-- `nearest` with its body in view; stated of the functions, where it is a comparison of one text with itself. -/
theorem nearest_eq (d : FVec Ideal S1024x512x2 .f32) :
    nearest d = fun j => (Host.argReduce (reducer_argmin_f32_i32 (F := Ideal)) d (iotaInDim S1024x512x2 32 2)
      (constant S_ .f32 0x7F800000#32) (constantI S_ 32 0#32) reducesTo_S1024x512x2_S1024x512_d2 h_S_ j).2 := rfl

/-- The index of the nearer code word: 0 when the first distance is at most the second, else 1. -/
theorem nearest_apply (d : FVec Ideal S1024x512x2 .f32) (i : Fin 1024) (f : Fin 512) :
    nearest d (ix2 i f) = if (d (ix3 i f 0) : EReal) ≤ d (ix3 i f 1) then 0#32 else 1#32 :=
  (congrFun (nearest_eq d) (ix2 i f)).trans
    ((congrArg Prod.snd ((reduction_fold d _ _ _ (ix2 i f)).trans (fold_pairs d i f))).trans (reducer_pair _ _))

/-! ## Reading the codebook -/

/-- An index 0 or 1 is not wrapped. -/
theorem wrapped_apply (k : IVec S1024x512 32) (i : Fin 1024) (f : Fin 512) (u : Fin 1)
    (hk : k (ix2 i f) = 0#32 ∨ k (ix2 i f) = 1#32) : wrapped k (ix3 i f u) = k (ix2 i f) := by
  pointwise [wrapped]
  rcases hk with h | h <;> rw [h] <;> decide

/-- An index 0 or 1 lies in the codebook. -/
theorem inside_apply (w : IVec S1024x512x1 32) (i : Fin 1024) (f : Fin 512) (u : Fin 1)
    (hw : w (ix3 i f 0) = 0#32 ∨ w (ix3 i f 0) = 1#32) : inside w (ix3 i f u) = 1#1 := by
  pointwise [inside]
  rw [Finset.univ_unique, Finset.fold_singleton]
  show IntOp.andi (IntOp.andi (IntOp.cmpi .sge (w (ix3 i f 0)) 0#32) (IntOp.cmpi .sle (w (ix3 i f 0)) 1#32)) 1#1 = 1#1
  rcases hw with h | h <;> rw [h] <;> decide

/-- The gathered code word: the one at the index, for an index 0 or 1. -/
theorem gather_apply (x : FVec Ideal S2x1 .f32) (w : IVec S1024x512x1 32) (i : Fin 1024) (f : Fin 512) (c : Fin 2)
    (hw : w (ix3 i f 0) = BitVec.ofNat 32 c.val) :
    Host.gather gather_S2x1_S1024x512x1_S1024x512x1_2_0_n_n_0_2_11 x w (ix3 i f 0) = x (ix2 c 0) := by
  unfold Host.gather
  refine congrArg x (funext fun a => ?_)
  match a with
  | ⟨1, _⟩ => exact Subsingleton.elim (α := Fin 1) _ _
  | ⟨0, _⟩ =>
    refine Fin.ext ?_
    show GatherDims.start _ (ix3 i f 0) w 0 + GatherDims.batchCoord _ (ix3 i f 0) 0 + GatherDims.offCoord _ (ix3 i f 0) 0 = c.val
    rw [GatherDims.batchCoord_eq_zero _ _ _ (by decide), GatherDims.offCoord_eq_zero _ _ _ (by decide)]
    unfold GatherDims.start
    rw [dif_pos (by decide)]
    have hsi : gather_S2x1_S1024x512x1_S1024x512x1_2_0_n_n_0_2_11.siIdx (ix3 i f 0)
        ⟨List.idxOf 0 gather_S2x1_S1024x512x1_S1024x512x1_2_0_n_n_0_2_11.startIndexMap, by decide⟩ = ix3 i f 0 := by
      funext b
      match b with
      | ⟨0, _⟩ => rfl
      | ⟨1, _⟩ => rfl
      | ⟨2, _⟩ => rfl
    rw [hsi, hw]
    match c with
    | ⟨0, _⟩ => rfl
    | ⟨1, _⟩ => rfl

/-- What `take` returns for feature `(i, f)` at an index 0 or 1: that code word. -/
theorem taken_apply (k : IVec S1024x512 32) (i : Fin 1024) (f : Fin 512) (c : Fin 2)
    (hk : k (ix2 i f) = BitVec.ofNat 32 c.val) :
    taken (F := Ideal) k (ix3 i f 0) = (codebook : FVec Ideal S2x1 .f32) (ix2 c 0) := by
  have hc : k (ix2 i f) = 0#32 ∨ k (ix2 i f) = 1#32 := by
    rw [hk]
    match c with
    | ⟨0, _⟩ => exact Or.inl rfl
    | ⟨1, _⟩ => exact Or.inr rfl
  have hw := wrapped_apply k i f 0 hc
  unfold taken
  rw [ValueIdx.select_apply, inside_apply _ i f 0 (by rw [hw]; exact hc), gather_apply _ _ i f c (hw.trans hk), ValueIdx.select_one]

end

end Cert.Proof.Ref
-- ==== Proof.RefValue.lean ====
/-
  What the reference computes, element by element.

  `feats_apply`: feature `f` of row `i` is `Σ_k x[i,k] * W[k,f] + b[f]`.
  `dists_apply`: its squared distance to a code word `q` is `(z - q) * (z - q)`.
  `picked_apply`: the code word taken is 0 when the first distance is at most the second, else 1.
  `out_apply`: the result at row `i`, predicate `c` is the sum over the features of `t * p - t`, where
  `t = z + (q - z)` for the feature `z` and the code word `q` taken for it.
-/
module

public import proofs.«01_k».proof.Proof.RefPick

@[expose] public section

set_option maxRecDepth 16384

namespace Cert.Proof.Ref

open Idealize.ShloMosaic
open Cert.ReferenceIdeal Cert.ReferenceIdeal.Facts₀ Cert.ReferenceIdeal.Facts

noncomputable section

variable (x : FVec Ideal S1024x4096 .f32) (w : FVec Ideal S4096x512 .f32) (b : FVec Ideal S512 .f32)
  (p : FVec Ideal S256x512 .f32)

/-- Feature `f` of row `i`. -/
def feat (i : Fin 1024) (f : Fin 512) : EReal :=
  (∑ k : Fin 4096, (x (ix2 i k) : EReal) * w (ix2 k f)) + b (ix1 f)

/-- The code word for a feature `z`: 0 when `z` is at most as far from 0 as from 1, else 1. -/
def word (z : EReal) : EReal :=
  if (z - 0) * (z - 0) ≤ (z - 1) * (z - 1) then 0 else 1

/-- A feature of the linear layer. -/
theorem feats_apply (i : Fin 1024) (f : Fin 512) : feats x w b (ix3 i f 0) = feat x w b i f := by
  pointwise [feats, feat]

/-- The squared distance of a feature to code word `c`. -/
theorem dists_apply (z : FVec Ideal S1024x512x1 .f32) (i : Fin 1024) (f : Fin 512) (c : Fin 2) :
    dists z (ix3 i f c) = ((z (ix3 i f 0) : EReal) - (codebook : FVec Ideal S2x1 .f32) (ix2 c 0))
      * ((z (ix3 i f 0) : EReal) - (codebook : FVec Ideal S2x1 .f32) (ix2 c 0)) := by
  pointwise [dists, gaps]
  exact Fin.sum_univ_one _

/-- The code word taken for feature `(i, f)` of `z`. -/
theorem picked_apply (z : FVec Ideal S1024x512x1 .f32) (i : Fin 1024) (f : Fin 512) :
    taken (F := Ideal) (nearest (dists z)) (ix3 i f 0) = word (z (ix3 i f 0)) := by
  have hn := nearest_apply (dists z) i f
  rw [dists_apply, dists_apply, codebook_zero, codebook_one] at hn
  unfold word
  split at hn
  · rw [taken_apply _ i f 0 hn, codebook_zero, if_pos ‹_›]
  · rw [taken_apply _ i f 1 hn, codebook_one, if_neg ‹_›]

/-- The straight-through sum of one feature. -/
theorem through_apply (z q : FVec Ideal S1024x512x1 .f32) (i : Fin 1024) (f : Fin 512) :
    through z q (ix3 i 0 f) = (z (ix3 i f 0) : EReal) + ((q (ix3 i f 0) : EReal) - z (ix3 i f 0)) := by
  pointwise [through]

/-- The score of a row and a predicate. -/
theorem scores_apply (t : FVec Ideal S1024x1x512 .f32) (i : Fin 1024) (c : Fin 256) :
    scores t p (ix2 i c) = ∑ f : Fin 512, ((t (ix3 i 0 f) : EReal) * p (ix2 c f) - t (ix3 i 0 f)) := by
  pointwise [scores]

/-- The straight-through value of a feature `z`. -/
def straight (z : EReal) : EReal := z + (word z - z)

/-- The reference's result at row `i`, predicate `c`. -/
theorem out_apply (i : Fin 1024) (c : Fin 256) :
    out x w b p (ix2 i c)
      = ∑ f : Fin 512, (straight (feat x w b i f) * p (ix2 c f) - straight (feat x w b i f)) := by
  unfold out
  rw [scores_apply]
  refine Finset.sum_congr rfl fun f _ => ?_
  rw [through_apply, picked_apply, feats_apply]
  rfl

end

end Cert.Proof.Ref
-- ==== Proof.Scalar.lean ====
/-
  The equation for one feature.

  `z` is a real feature and `q` its code word. The reference's `z + (q - z)` is `q`; the nearer code word is 1 exactly
  when `z` exceeds one half, which is the kernel's test `s > 1/2 - b` for `z = s + b`; and `q * p - q = q * (p - 1)` for
  every extended real `p`, since `q` is 0 or 1.
-/
module

public import proofs.«01_k».proof.Proof.RefValue
public import proofs.«01_k».proof.Proof.KerBlock

@[expose] public section

namespace Cert.Proof.Eqn

open Cert.Proof.Ref Cert.Proof.Ker

/-- A sum of real numbers is a real number. -/
theorem sum_real {n : ℕ} (g : Fin n → EReal) (h : ∀ k, ∃ r : ℝ, g k = (r : EReal)) :
    ∃ r : ℝ, ∑ k, g k = (r : EReal) := by
  refine Finset.sum_induction g (fun e => ∃ r : ℝ, e = (r : EReal)) ?_ ⟨0, rfl⟩ fun k _ => h k
  rintro _ _ ⟨r, rfl⟩ ⟨s, rfl⟩
  exact ⟨r + s, (EReal.coe_add r s).symm⟩

/-- The code word of a real feature: 1 exactly above one half. -/
theorem word_real (z : ℝ) : word (z : EReal) = if 1 / 2 < z then 1 else 0 := by
  have h : ((z : EReal) - 0) * ((z : EReal) - 0) ≤ ((z : EReal) - 1) * ((z : EReal) - 1) ↔ ¬ 1 / 2 < z := by
    rw [← EReal.coe_zero, ← EReal.coe_one, ← EReal.coe_sub, ← EReal.coe_sub, ← EReal.coe_mul, ← EReal.coe_mul,
      EReal.coe_le_coe_iff, not_lt]
    constructor <;> intro h <;> nlinarith
  unfold word
  by_cases hz : 1 / 2 < z
  · rw [if_pos hz, if_neg fun e => h.1 e hz]
  · rw [if_neg hz, if_pos (h.2 hz)]

/-- The kernel's bit of a real sum and a real bias is the code word of the feature. -/
theorem bit_real (s b : ℝ) : bit (s : EReal) (b : EReal) = word ((s : EReal) + (b : EReal)) := by
  have h : ((1 / 2 : ℝ) : EReal) - (b : EReal) < (s : EReal) ↔ 1 / 2 < s + b := by
    rw [← EReal.coe_sub, EReal.coe_lt_coe_iff]
    exact sub_lt_iff_lt_add
  rw [← EReal.coe_add, word_real]
  unfold bit
  by_cases hz : 1 / 2 < s + b
  · rw [if_pos hz, if_pos (h.2 hz)]
  · rw [if_neg hz, if_neg fun e => hz (h.1 e)]

/-- A code word is 0 or 1. -/
theorem word_cases (z : EReal) : word z = 0 ∨ word z = 1 := by
  unfold word
  split
  · exact Or.inl rfl
  · exact Or.inr rfl

/-- The straight-through value of a real feature is its code word. -/
theorem straight_real (z : ℝ) : straight (z : EReal) = word (z : EReal) := by
  unfold straight
  rcases word_cases (z : EReal) with h | h <;> rw [h]
  · rw [← EReal.coe_zero, ← EReal.coe_sub, ← EReal.coe_add, add_sub_cancel]
  · rw [← EReal.coe_one, ← EReal.coe_sub, ← EReal.coe_add, add_sub_cancel]

/-- One feature's term: the kernel's and the reference's. -/
theorem term_eq (s b : ℝ) (p : EReal) :
    bit (s : EReal) (b : EReal) * (p - 1)
      = straight ((s : EReal) + (b : EReal)) * p - straight ((s : EReal) + (b : EReal)) := by
  rw [bit_real, ← EReal.coe_add, straight_real]
  rcases word_cases ((s + b : ℝ) : EReal) with h | h <;> rw [h]
  · rw [zero_mul, zero_mul, sub_zero]
  · rw [one_mul, one_mul]

end Cert.Proof.Eqn
-- ==== Proof.Tie.lean ====
/-
  The equation between the two results.

  The kernel's feature sum runs over the left and then the right half of the columns; together they are the reference's
  sum over all the columns. With finite inputs, weights and biases that sum and the bias are real numbers, and the
  equation for one feature, summed over the features, is the equation of the results.
-/
module

public import proofs.«01_k».proof.Proof.Scalar
public import proofs.«01_k».proof.Proof.KerArray

@[expose] public section

namespace Cert.Proof.Eqn

open Idealize.ShloMosaic
open Cert.KernelIdeal
open Cert.Proof.Ref Cert.Proof.Ker

/-- The two half sums are the sum over all the columns. -/
theorem halves_eq (x : FVec Ideal S1024x4096 .f32) (w : FVec Ideal S4096x512 .f32) (i : Fin 1024) (f : Fin 512) :
    halves x w i f = ∑ k : Fin 4096, (x (ix2 i k) : EReal) * w (ix2 k f) := by
  unfold halves
  exact (Fin.sum_univ_add (a := 2048) (b := 2048) fun k : Fin 4096 => (x (ix2 i k) : EReal) * w (ix2 k f)).symm

/-- The reference's result and the kernel's, element by element. -/
theorem value_eq (x : FVec Ideal S1024x4096 .f32) (w : FVec Ideal S4096x512 .f32) (b : FVec Ideal S512 .f32)
    (p : FVec Ideal S256x512 .f32) (hx : ∀ j, ∃ r : ℝ, (x j : EReal) = (r : EReal))
    (hw : ∀ j, ∃ r : ℝ, (w j : EReal) = (r : EReal)) (hb : ∀ j, ∃ r : ℝ, (b j : EReal) = (r : EReal))
    (i : Fin 1024) (c : Fin 256) : value x w b p i c = out x w b p (ix2 i c) := by
  rw [out_apply]
  unfold value
  refine Finset.sum_congr rfl fun f _ => ?_
  obtain ⟨s, hs⟩ := sum_real (fun k : Fin 4096 => (x (ix2 i k) : EReal) * w (ix2 k f)) fun k => by
    obtain ⟨u, hu⟩ := hx (ix2 i k)
    obtain ⟨v, hv⟩ := hw (ix2 k f)
    exact ⟨u * v, by rw [hu, hv, EReal.coe_mul]⟩
  obtain ⟨β, hβ⟩ := hb (ix1 f)
  unfold feat
  rw [halves_eq, hs, hβ]
  exact term_eq s β _

/-- The two results are one array. -/
theorem result_eq (x : FVec Ideal S1024x4096 .f32) (w : FVec Ideal S4096x512 .f32) (b : FVec Ideal S512 .f32)
    (p : FVec Ideal S256x512 .f32) (hx : ∀ j, ∃ r : ℝ, (x j : EReal) = (r : EReal))
    (hw : ∀ j, ∃ r : ℝ, (w j : EReal) = (r : EReal)) (hb : ∀ j, ∃ r : ℝ, (b j : EReal) = (r : EReal)) :
    result x w b p = out x w b p := by
  funext j
  have hj : j = ix2 (j 0 : Fin 1024) (j 1 : Fin 256) := by idx_ext
  exact (value_eq x w b p hx hw hb (j 0) (j 1)).trans (congrArg (out x w b p) hj.symm)

end Cert.Proof.Eqn
-- ==== Proof.lean ====
/-
  The certificate: the frames of the kernel and of the reference, and the equality of their results.

  The frames of the kernel come from its generated run; the reference's from its hand-written run (`RefRun`). The
  equality sets the kernel's result array (`Ker.arr_eq`) beside the reference's (`Ref.run`); under `finite` the two are
  one array (`Eqn.result_eq`).
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.Pre_finite
public import proofs.«01_k».proof.Proof.RefRun
public import proofs.«01_k».proof.Proof.Finite
public import proofs.«01_k».proof.Proof.KerArray
public import proofs.«01_k».proof.Proof.Tie

@[expose] public section

noncomputable section

namespace Cert.Proof

open Idealize.ShloMosaic Idealize.SL.Sem

/-- The kernel's result and the reference's are equal on finite inputs, weights and biases. -/
theorem algebraic : Cert.algebraic_KernelIdeal_ReferenceIdeal_pre_finite := by
  intro m ρ m' ρ' hpre hagree
  refine ⟨fun c => Ker.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Ker.arr_eq m c), (h c).2⟩)
      (Cert.KernelIdeal.Value.run_blocks m ρ)
  · refine (θ_run Cert.ReferenceIdeal.defs _ _).mono
      (fun _ h c => ⟨(h c).1.trans ?_, (h c).2⟩) (Ref.run m' ρ')
    obtain ⟨h0, h1, h2, h3⟩ := hagree c
    obtain ⟨hx, hw, hb⟩ := Pre.real_of_finite _ _ _ _ (hpre c)
    rw [h0, h1, h2, h3]
    exact (Eqn.result_eq _ _ _ _ hx hw hb).symm

theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ, fun m ρ _ => Cert.KernelIdeal.Gen.frame m ρ,
    fun m ρ _ => Cert.KernelIdeal.Gen.frame m ρ, fun m ρ _ => Ref.frame m ρ, fun m ρ _ => Ref.frame m ρ,
    trivial, algebraic⟩

end Cert.Proof

end
